-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x16384 : Shape := ⟨3, ![48, 1, 16384]⟩
abbrev S16384x896 : Shape := ⟨2, ![16384, 896]⟩
abbrev S896 : Shape := ⟨1, ![896]⟩
abbrev S7168 : Shape := ⟨1, ![7168]⟩
abbrev S48x16384 : Shape := ⟨2, ![48, 16384]⟩
abbrev S1x896 : Shape := ⟨2, ![1, 896]⟩
abbrev S896x8 : Shape := ⟨2, ![896, 8]⟩
abbrev S8x896 : Shape := ⟨2, ![8, 896]⟩
abbrev S8x48x896 : Shape := ⟨3, ![8, 48, 896]⟩
abbrev S48x2048 : Shape := ⟨2, ![48, 2048]⟩
abbrev S2048x128 : Shape := ⟨2, ![2048, 128]⟩
abbrev S1x128 : Shape := ⟨2, ![1, 128]⟩
abbrev S8x128 : Shape := ⟨2, ![8, 128]⟩
abbrev S8x48x128 : Shape := ⟨3, ![8, 48, 128]⟩
abbrev S48x1024 : Shape := ⟨2, ![48, 1024]⟩
abbrev S48x1 : Shape := ⟨2, ![48, 1]⟩
abbrev S256x1024 : Shape := ⟨2, ![256, 1024]⟩
abbrev S32x128 : Shape := ⟨2, ![32, 128]⟩
abbrev S16x128 : Shape := ⟨2, ![16, 128]⟩
abbrev S48 : Shape := ⟨1, ![48]⟩
abbrev S256x1x1024 : Shape := ⟨3, ![256, 1, 1024]⟩
abbrev S256x8x1024 : Shape := ⟨3, ![256, 8, 1024]⟩
abbrev S2048x1024 : Shape := ⟨2, ![2048, 1024]⟩
abbrev S48x128 : Shape := ⟨2, ![48, 128]⟩
abbrev S1x48x128 : Shape := ⟨3, ![1, 48, 128]⟩
abbrev S48x896x8 : Shape := ⟨3, ![48, 896, 8]⟩
abbrev S48x1x7168 : Shape := ⟨3, ![48, 1, 7168]⟩

abbrev nBuf : Space → Nat
  | .hbm => 11
  | .vmem => 13
  | .smem => 0
  | _ => 0

abbrev bufTy : (tb : Table) → Fin (tcTables nBuf tb) → BufTy
  | .hbm, ⟨0, _⟩ => ⟨S48x1x16384, .bf16⟩
  | .hbm, ⟨1, _⟩ => ⟨S16384x896, .i32⟩
  | .hbm, ⟨2, _⟩ => ⟨S896, .i32⟩
  | .hbm, ⟨3, _⟩ => ⟨S7168, .f32⟩
  | .hbm, ⟨4, _⟩ => ⟨S48x16384, .bf16⟩
  | .hbm, ⟨5, _⟩ => ⟨S1x896, .i32⟩
  | .hbm, ⟨6, _⟩ => ⟨S896x8, .f32⟩
  | .hbm, ⟨7, _⟩ => ⟨S8x896, .f32⟩
  | .hbm, ⟨8, _⟩ => ⟨S8x48x896, .bf16⟩
  | .hbm, ⟨9, _⟩ => ⟨S48x896x8, .bf16⟩
  | .hbm, ⟨10, _⟩ => ⟨S48x1x7168, .bf16⟩
  | .local _ .vmem, ⟨0, _⟩ => ⟨S48x2048, .bf16⟩
  | .local _ .vmem, ⟨1, _⟩ => ⟨S48x2048, .bf16⟩
  | .local _ .vmem, ⟨2, _⟩ => ⟨S2048x128, .i32⟩
  | .local _ .vmem, ⟨3, _⟩ => ⟨S2048x128, .i32⟩
  | .local _ .vmem, ⟨4, _⟩ => ⟨S1x128, .i32⟩
  | .local _ .vmem, ⟨5, _⟩ => ⟨S1x128, .i32⟩
  | .local _ .vmem, ⟨6, _⟩ => ⟨S8x128, .f32⟩
  | .local _ .vmem, ⟨7, _⟩ => ⟨S8x128, .f32⟩
  | .local _ .vmem, ⟨8, _⟩ => ⟨S8x48x128, .bf16⟩
  | .local _ .vmem, ⟨9, _⟩ => ⟨S8x48x128, .bf16⟩
  | .local _ .vmem, ⟨10, _⟩ => ⟨S48x1024, .f32⟩
  | .local _ .vmem, ⟨11, _⟩ => ⟨S48x1, .f32⟩
  | .local _ .vmem, ⟨12, _⟩ => ⟨S256x1024, .i32⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 8], ![false, false]⟩

def k0_cond2 (i : grid0.Coords) : BitVec 1 :=
  let arg1 : BitVec 32 := BitVec.ofNat 32 (i 1).val
  let c7_i32 : BitVec 32 := 7#32
  let v6944 : BitVec 1 := Scalar.cmpi .eq arg1 c7_i32
  let v6945 : BitVec 32 := Scalar.extui v6944
  let c0_i32_2540 : BitVec 32 := 0#32
  let v6946 : BitVec 1 := Scalar.cmpi .ne v6945 c0_i32_2540
  v6946

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S48x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x48x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S48x1x16384 : Shape := ⟨3, ![48, 1, 16384]⟩
abbrev S16384x896 : Shape := ⟨2, ![16384, 896]⟩
abbrev S896 : Shape := ⟨1, ![896]⟩
abbrev S7168 : Shape := ⟨1, ![7168]⟩
abbrev S8 : Shape := ⟨1, ![8]⟩
abbrev S48x16384 : Shape := ⟨2, ![48, 16384]⟩
abbrev S_ : Shape := ⟨0, ![]⟩
abbrev S48 : Shape := ⟨1, ![48]⟩
abbrev S48x1 : Shape := ⟨2, ![48, 1]⟩
abbrev S16384x1x896 : Shape := ⟨3, ![16384, 1, 896]⟩
abbrev S1x8x1 : Shape := ⟨3, ![1, 8, 1]⟩
abbrev S16384x8x896 : Shape := ⟨3, ![16384, 8, 896]⟩
abbrev S48x8x896 : Shape := ⟨3, ![48, 8, 896]⟩
abbrev S1x896 : Shape := ⟨2, ![1, 896]⟩
abbrev S8x1 : Shape := ⟨2, ![8, 1]⟩
abbrev S8x896 : Shape := ⟨2, ![8, 896]⟩
abbrev S896x8 : Shape := ⟨2, ![896, 8]⟩
abbrev S1x8x896 : Shape := ⟨3, ![1, 8, 896]⟩
abbrev S48x1x1 : Shape := ⟨3, ![48, 1, 1]⟩
abbrev S48x896x8 : Shape := ⟨3, ![48, 896, 8]⟩
abbrev S48x1x7168 : Shape := ⟨3, ![48, 1, 7168]⟩

abbrev nBuf : Space → Nat
  | .hbm => 43
  | .vmem => 0
  | .smem => 0
  | _ => 0

abbrev bufTy : (tb : Table) → Fin (tcTables nBuf tb) → BufTy
  | .hbm, ⟨0, _⟩ => ⟨S48x1x16384, .bf16⟩
  | .hbm, ⟨1, _⟩ => ⟨S16384x896, .i32⟩
  | .hbm, ⟨2, _⟩ => ⟨S896, .i32⟩
  | .hbm, ⟨3, _⟩ => ⟨S7168, .f32⟩
  | .hbm, ⟨4, _⟩ => ⟨S8, .i32⟩
  | .hbm, ⟨5, _⟩ => ⟨S48x16384, .bf16⟩
  | .hbm, ⟨6, _⟩ => ⟨S48x16384, .f32⟩
  | .hbm, ⟨7, _⟩ => ⟨S_, .f32⟩
  | .hbm, ⟨8, _⟩ => ⟨S48, .f32⟩
  | .hbm, ⟨9, _⟩ => ⟨S48x1, .f32⟩
  | .hbm, ⟨10, _⟩ => ⟨S16384x1x896, .i32⟩
  | .hbm, ⟨11, _⟩ => ⟨S1x8x1, .i32⟩
  | .hbm, ⟨12, _⟩ => ⟨S16384x8x896, .i32⟩
  | .hbm, ⟨13, _⟩ => ⟨S16384x8x896, .i32⟩
  | .hbm, ⟨14, _⟩ => ⟨S16384x8x896, .i32⟩
  | .hbm, ⟨15, _⟩ => ⟨S_, .i32⟩
  | .hbm, ⟨16, _⟩ => ⟨S16384x8x896, .i32⟩
  | .hbm, ⟨17, _⟩ => ⟨S16384x8x896, .i32⟩
  | .hbm, ⟨18, _⟩ => ⟨S16384x8x896, .bf16⟩
  | .hbm, ⟨19, _⟩ => ⟨S48x8x896, .f32⟩
  | .hbm, ⟨20, _⟩ => ⟨S1x896, .i32⟩
  | .hbm, ⟨21, _⟩ => ⟨S8x1, .i32⟩
  | .hbm, ⟨22, _⟩ => ⟨S8x896, .i32⟩
  | .hbm, ⟨23, _⟩ => ⟨S8x896, .i32⟩
  | .hbm, ⟨24, _⟩ => ⟨S8x896, .i32⟩
  | .hbm, ⟨25, _⟩ => ⟨S_, .i32⟩
  | .hbm, ⟨26, _⟩ => ⟨S8x896, .i32⟩
  | .hbm, ⟨27, _⟩ => ⟨S8x896, .i32⟩
  | .hbm, ⟨28, _⟩ => ⟨S8x896, .f32⟩
  | .hbm, ⟨29, _⟩ => ⟨S896x8, .f32⟩
  | .hbm, ⟨30, _⟩ => ⟨S8x896, .f32⟩
  | .hbm, ⟨31, _⟩ => ⟨S1x8x896, .f32⟩
  | .hbm, ⟨32, _⟩ => ⟨S48x1x1, .f32⟩
  | .hbm, ⟨33, _⟩ => ⟨S48x8x896, .f32⟩
  | .hbm, ⟨34, _⟩ => ⟨S48x8x896, .f32⟩
  | .hbm, ⟨35, _⟩ => ⟨S48x8x896, .f32⟩
  | .hbm, ⟨36, _⟩ => ⟨S48x8x896, .f32⟩
  | .hbm, ⟨37, _⟩ => ⟨S1x8x896, .f32⟩
  | .hbm, ⟨38, _⟩ => ⟨S48x8x896, .f32⟩
  | .hbm, ⟨39, _⟩ => ⟨S48x8x896, .f32⟩
  | .hbm, ⟨40, _⟩ => ⟨S48x896x8, .f32⟩
  | .hbm, ⟨41, _⟩ => ⟨S48x1x7168, .f32⟩
  | .hbm, ⟨42, _⟩ => ⟨S48x1x7168, .bf16⟩
  | _, _ => ⟨S48x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.Nibbles.lean ====
/- The nibble exchange of eight words, bit by bit. Eight words go in, eight come out, and nibble `r` of word `j`
   out is nibble `j` of word `r` in. The exchange runs in three rounds: the words are merged in pairs by fields of 4,
   then of 8, then of 16 bits, each round taking the even fields (the pair itself) or the odd fields (the pair shifted
   down by one field). Each merge is read here at one bit, and the three rounds together give the exchange. -/
module

public import proofs.«01_k».proof.Proof.Gen.KernelIdeal
public import Idealize.ShloMosaic.Lib.Pipeline.ValueKit
public import Idealize.ShloMosaic.Lib.BitcastPair

@[expose] public section

set_option maxRecDepth 16384

noncomputable section

namespace Cert.KernelIdeal.Hand

open Cert.KernelIdeal Cert.KernelIdeal.Gen Idealize.ShloMosaic Idealize.SL.Sem

/-! ## A word viewed as narrower rows and back -/

/-- Bit `q` of a word put together from bytes. -/
theorem join8 (z : IVec S32x128 8) (i : S8x128.Idx) (q : ℕ) (hq : q < 32) (p : S32x128.Idx)
    (h0 : (p 0).val = 4 * (i 0).val + q / 8) (h1 : (p 1).val = (i 1).val) :
    (bitcast S8x128 32 z bitcasts_S32x128_w8_S8x128_w32 i).getLsbD q = (z p).getLsbD (q % 8) := by
  rw [bitcast_getLsbD _ _ _ _ hq (by decide)]
  have hr : S8x128.row i = (i 0).val := rfl
  refine congrArg₂ BitVec.getLsbD (congrArg z ?_) ?_
  · funext a
    match a with
    | ⟨0, _⟩ => exact Fin.ext ((Shape.Bitcasts.srcIdx_row _ _ _ _ ⟨0, Nat.zero_lt_two⟩ rfl).trans (Eq.trans (by rw [hr]; omega) h0.symm))
    | ⟨1, _⟩ => exact Fin.ext ((Shape.Bitcasts.srcIdx_other _ _ _ _ ⟨1, Nat.one_lt_two⟩ (by show ¬ 1 + 2 = 2; omega)).trans h1.symm)
  · rw [hr]; omega

/-- Bit `b` of a byte of a split word. -/
theorem split8 (x : IVec S8x128 32) (p : S32x128.Idx) (b : ℕ) (hb : b < 8) (i : S8x128.Idx)
    (h0 : (i 0).val = (p 0).val / 4) (h1 : (i 1).val = (p 1).val) :
    (bitcast S32x128 8 x bitcasts_S8x128_w32_S32x128_w8 p).getLsbD b = (x i).getLsbD (8 * ((p 0).val % 4) + b) := by
  rw [bitcast_getLsbD _ _ _ _ hb (by decide)]
  have hr : S32x128.row p = (p 0).val := rfl
  refine congrArg₂ BitVec.getLsbD (congrArg x ?_) ?_
  · funext a
    match a with
    | ⟨0, _⟩ => exact Fin.ext ((Shape.Bitcasts.srcIdx_row _ _ _ _ ⟨0, Nat.zero_lt_two⟩ rfl).trans (Eq.trans (by rw [hr]; omega) h0.symm))
    | ⟨1, _⟩ => exact Fin.ext ((Shape.Bitcasts.srcIdx_other _ _ _ _ ⟨1, Nat.one_lt_two⟩ (by show ¬ 1 + 2 = 2; omega)).trans h1.symm)
  · rw [hr]; omega

/-- Bit `q` of a word put together from halfwords. -/
theorem join16 (z : IVec S16x128 16) (i : S8x128.Idx) (q : ℕ) (hq : q < 32) (p : S16x128.Idx)
    (h0 : (p 0).val = 2 * (i 0).val + q / 16) (h1 : (p 1).val = (i 1).val) :
    (bitcast S8x128 32 z bitcasts_S16x128_w16_S8x128_w32 i).getLsbD q = (z p).getLsbD (q % 16) := by
  rw [bitcast_getLsbD _ _ _ _ hq (by decide)]
  have hr : S8x128.row i = (i 0).val := rfl
  refine congrArg₂ BitVec.getLsbD (congrArg z ?_) ?_
  · funext a
    match a with
    | ⟨0, _⟩ => exact Fin.ext ((Shape.Bitcasts.srcIdx_row _ _ _ _ ⟨0, Nat.zero_lt_two⟩ rfl).trans (Eq.trans (by rw [hr]; omega) h0.symm))
    | ⟨1, _⟩ => exact Fin.ext ((Shape.Bitcasts.srcIdx_other _ _ _ _ ⟨1, Nat.one_lt_two⟩ (by show ¬ 1 + 2 = 2; omega)).trans h1.symm)
  · rw [hr]; omega

/-- Bit `b` of a halfword of a split word. -/
theorem split16 (x : IVec S8x128 32) (p : S16x128.Idx) (b : ℕ) (hb : b < 16) (i : S8x128.Idx)
    (h0 : (i 0).val = (p 0).val / 2) (h1 : (i 1).val = (p 1).val) :
    (bitcast S16x128 16 x bitcasts_S8x128_w32_S16x128_w16 p).getLsbD b = (x i).getLsbD (16 * ((p 0).val % 2) + b) := by
  rw [bitcast_getLsbD _ _ _ _ hb (by decide)]
  have hr : S16x128.row p = (p 0).val := rfl
  refine congrArg₂ BitVec.getLsbD (congrArg x ?_) ?_
  · funext a
    match a with
    | ⟨0, _⟩ => exact Fin.ext ((Shape.Bitcasts.srcIdx_row _ _ _ _ ⟨0, Nat.zero_lt_two⟩ rfl).trans (Eq.trans (by rw [hr]; omega) h0.symm))
    | ⟨1, _⟩ => exact Fin.ext ((Shape.Bitcasts.srcIdx_other _ _ _ _ ⟨1, Nat.one_lt_two⟩ (by show ¬ 1 + 2 = 2; omega)).trans h1.symm)
  · rw [hr]; omega

/-! ## The three merges -/

/-- The even nibbles of `a` and `b`, byte by byte: `a`'s low nibble below, `b`'s above. -/
def merge4 (a b : IVec S8x128 32) : IVec S8x128 32 :=
  bitcast S8x128 32 (ori (andi (bitcast S32x128 8 a bitcasts_S8x128_w32_S32x128_w8) (broadcast S32x128 15#8))
    (shli (bitcast S32x128 8 b bitcasts_S8x128_w32_S32x128_w8) (broadcast S32x128 4#8))) bitcasts_S32x128_w8_S8x128_w32

/-- The even bytes of `a` and `b`, halfword by halfword. -/
def merge8 (a b : IVec S8x128 32) : IVec S8x128 32 :=
  bitcast S8x128 32 (ori (andi (bitcast S16x128 16 a bitcasts_S8x128_w32_S16x128_w16) (broadcast S16x128 255#16))
    (shli (bitcast S16x128 16 b bitcasts_S8x128_w32_S16x128_w16) (broadcast S16x128 8#16))) bitcasts_S16x128_w16_S8x128_w32

/-- The low halfwords of `a` and `b`. -/
def merge16 (a b : IVec S8x128 32) : IVec S8x128 32 := packElementwiseI16 a b

/-- A vector of words shifted down by `k` bits. -/
def down (k : BitVec 32) (x : IVec S8x128 32) : IVec S8x128 32 := shrui x (broadcast S8x128 k)

theorem down_getLsbD (k : BitVec 32) (hk : k.toNat < 32) (x : IVec S8x128 32) (i : S8x128.Idx) (q : ℕ) :
    (down k x i).getLsbD q = (x i).getLsbD (k.toNat + q) := by
  show (IntOp.shrui .vector (x i) k).getLsbD q = _
  unfold IntOp.shrui
  rw [if_pos hk]
  simp only [BitVec.ushiftRight_eq', BitVec.getLsbD_ushiftRight]

theorem merge4_getLsbD (a b : IVec S8x128 32) (i : S8x128.Idx) (q : ℕ) (hq : q < 32) :
    (merge4 a b i).getLsbD q = if q % 8 < 4 then (a i).getLsbD q else (b i).getLsbD (q - 4) := by
  have hi0 : (i 0).val < 8 := (i 0).isLt
  let p : S32x128.Idx := ValueIdx.ix2 ⟨4 * (i 0).val + q / 8, by omega⟩ (i 1)
  have hp0 : (p 0).val = 4 * (i 0).val + q / 8 := rfl
  rw [merge4, join8 _ i q hq p hp0 rfl]
  show (IntOp.ori (IntOp.andi (bitcast S32x128 8 a _ p) 15#8) (IntOp.shli .vector (bitcast S32x128 8 b _ p) 4#8)).getLsbD (q % 8) = _
  unfold IntOp.shli IntOp.ori IntOp.andi
  rw [if_pos (by decide)]
  have h15 : (15#8 : BitVec 8).getLsbD (q % 8) = decide (q % 8 < 4) := by
    have : q % 8 < 8 := Nat.mod_lt _ (by decide)
    generalize q % 8 = n at this ⊢
    interval_cases n <;> rfl
  simp only [BitVec.getLsbD_or, BitVec.getLsbD_and, h15, BitVec.shiftLeft_eq', BitVec.getLsbD_shiftLeft]
  by_cases h : q % 8 < 4
  · rw [if_pos h, split8 a p (q % 8) (by omega) i (by omega) rfl, hp0]
    rw [show 8 * ((4 * (i 0).val + q / 8) % 4) + q % 8 = q from by omega]
    simp [h]
  · rw [if_neg h, split8 b p (q % 8 - (4#8).toNat) (by have : (4#8 : BitVec 8).toNat = 4 := rfl; omega) i (by omega) rfl, hp0]
    rw [show 8 * ((4 * (i 0).val + q / 8) % 4) + (q % 8 - (4#8).toNat) = q - 4 from by
      have : (4#8 : BitVec 8).toNat = 4 := rfl
      omega]
    have h8 : q % 8 < 8 := by omega
    have h4 : ¬ q % 8 < (4#8 : BitVec 8).toNat := h
    simp [h, h8]

theorem merge8_getLsbD (a b : IVec S8x128 32) (i : S8x128.Idx) (q : ℕ) (hq : q < 32) :
    (merge8 a b i).getLsbD q = if q % 16 < 8 then (a i).getLsbD q else (b i).getLsbD (q - 8) := by
  have hi0 : (i 0).val < 8 := (i 0).isLt
  let p : S16x128.Idx := ValueIdx.ix2 ⟨2 * (i 0).val + q / 16, by omega⟩ (i 1)
  have hp0 : (p 0).val = 2 * (i 0).val + q / 16 := rfl
  rw [merge8, join16 _ i q hq p hp0 rfl]
  show (IntOp.ori (IntOp.andi (bitcast S16x128 16 a _ p) 255#16) (IntOp.shli .vector (bitcast S16x128 16 b _ p) 8#16)).getLsbD (q % 16) = _
  unfold IntOp.shli IntOp.ori IntOp.andi
  rw [if_pos (by decide)]
  have h255 : (255#16 : BitVec 16).getLsbD (q % 16) = decide (q % 16 < 8) := by
    have : q % 16 < 16 := Nat.mod_lt _ (by decide)
    generalize q % 16 = n at this ⊢
    interval_cases n <;> rfl
  simp only [BitVec.getLsbD_or, BitVec.getLsbD_and, h255, BitVec.shiftLeft_eq', BitVec.getLsbD_shiftLeft]
  by_cases h : q % 16 < 8
  · rw [if_pos h, split16 a p (q % 16) (by omega) i (by omega) rfl, hp0]
    rw [show 16 * ((2 * (i 0).val + q / 16) % 2) + q % 16 = q from by omega]
    simp [h]
  · rw [if_neg h, split16 b p (q % 16 - (8#16).toNat) (by have : (8#16 : BitVec 16).toNat = 8 := rfl; omega) i (by omega) rfl, hp0]
    rw [show 16 * ((2 * (i 0).val + q / 16) % 2) + (q % 16 - (8#16).toNat) = q - 8 from by
      have : (8#16 : BitVec 16).toNat = 8 := rfl
      omega]
    have h16 : q % 16 < 16 := by omega
    simp [h, h16]

theorem merge16_getLsbD (a b : IVec S8x128 32) (i : S8x128.Idx) (q : ℕ) (hq : q < 32) :
    (merge16 a b i).getLsbD q = if q < 16 then (a i).getLsbD q else (b i).getLsbD (q - 16) := by
  rw [merge16, packElementwiseI16_apply, BitVec.getLsbD_append]
  by_cases h : q < 16
  · simp [h]
  · simp [h, show q - 16 < 16 from by omega]

/-! ## The exchange -/

/-- One merge of a round, on the even fields (`f = 0`) or the odd ones. -/
def round4 (f : Fin 2) (a b : IVec S8x128 32) : IVec S8x128 32 :=
  match f with
  | ⟨0, _⟩ => merge4 a b
  | ⟨1, _⟩ => merge4 (down 4#32 a) (down 4#32 b)
def round8 (f : Fin 2) (a b : IVec S8x128 32) : IVec S8x128 32 :=
  match f with
  | ⟨0, _⟩ => merge8 a b
  | ⟨1, _⟩ => merge8 (down 8#32 a) (down 8#32 b)
def round16 (f : Fin 2) (a b : IVec S8x128 32) : IVec S8x128 32 :=
  match f with
  | ⟨0, _⟩ => merge16 a b
  | ⟨1, _⟩ => merge16 (down 16#32 a) (down 16#32 b)

/-- Word `j = f₀ + 2 f₁ + 4 f₂` of the exchange of the words `w0 … w7`. -/
def exchanged (f₀ f₁ f₂ : Fin 2) (w0 w1 w2 w3 w4 w5 w6 w7 : IVec S8x128 32) : IVec S8x128 32 :=
  round16 f₂ (round8 f₁ (round4 f₀ w0 w1) (round4 f₀ w2 w3)) (round8 f₁ (round4 f₀ w4 w5) (round4 f₀ w6 w7))

theorem round4_getLsbD (f : Fin 2) (a b : IVec S8x128 32) (i : S8x128.Idx) (q : ℕ) (hq : q < 32) :
    (round4 f a b i).getLsbD q = if q % 8 < 4 then (a i).getLsbD (4 * f.val + q) else (b i).getLsbD (4 * f.val + (q - 4)) := by
  match f with
  | ⟨0, _⟩ => rw [round4, merge4_getLsbD _ _ _ _ hq]; simp
  | ⟨1, _⟩ =>
    rw [round4, merge4_getLsbD _ _ _ _ hq, down_getLsbD _ (by decide), down_getLsbD _ (by decide)]
    rfl

theorem round8_getLsbD (f : Fin 2) (a b : IVec S8x128 32) (i : S8x128.Idx) (q : ℕ) (hq : q < 32) :
    (round8 f a b i).getLsbD q = if q % 16 < 8 then (a i).getLsbD (8 * f.val + q) else (b i).getLsbD (8 * f.val + (q - 8)) := by
  match f with
  | ⟨0, _⟩ => rw [round8, merge8_getLsbD _ _ _ _ hq]; simp
  | ⟨1, _⟩ =>
    rw [round8, merge8_getLsbD _ _ _ _ hq, down_getLsbD _ (by decide), down_getLsbD _ (by decide)]
    rfl

theorem round16_getLsbD (f : Fin 2) (a b : IVec S8x128 32) (i : S8x128.Idx) (q : ℕ) (hq : q < 32) :
    (round16 f a b i).getLsbD q = if q < 16 then (a i).getLsbD (16 * f.val + q) else (b i).getLsbD (16 * f.val + (q - 16)) := by
  match f with
  | ⟨0, _⟩ => rw [round16, merge16_getLsbD _ _ _ _ hq]; simp
  | ⟨1, _⟩ =>
    rw [round16, merge16_getLsbD _ _ _ _ hq, down_getLsbD _ (by decide), down_getLsbD _ (by decide)]
    rfl

/-- THE EXCHANGE: bit `b` of nibble `r` of word `j` is bit `b` of nibble `j` of word `r`, where `w r` names the words. -/
theorem exchanged_getLsbD (f₀ f₁ f₂ : Fin 2) (w : Fin 8 → IVec S8x128 32) (i : S8x128.Idx) (r : Fin 8) (b : ℕ) (hb : b < 4) :
    (exchanged f₀ f₁ f₂ (w 0) (w 1) (w 2) (w 3) (w 4) (w 5) (w 6) (w 7) i).getLsbD (4 * r.val + b)
      = (w r i).getLsbD (4 * (f₀.val + 2 * f₁.val + 4 * f₂.val) + b) := by
  have h0 : f₀.val < 2 := f₀.isLt
  have h1 : f₁.val < 2 := f₁.isLt
  have h2 : f₂.val < 2 := f₂.isLt
  unfold exchanged
  match r with
  | ⟨0, _⟩ =>
    dsimp only
    rw [round16_getLsbD _ _ _ _ _ (by omega), if_pos (by omega), round8_getLsbD _ _ _ _ _ (by omega), if_pos (by omega), round4_getLsbD _ _ _ _ _ (by omega), if_pos (by omega)]
    exact congrArg _ (by omega)
  | ⟨1, _⟩ =>
    dsimp only
    rw [round16_getLsbD _ _ _ _ _ (by omega), if_pos (by omega), round8_getLsbD _ _ _ _ _ (by omega), if_pos (by omega), round4_getLsbD _ _ _ _ _ (by omega), if_neg (by omega)]
    exact congrArg _ (by omega)
  | ⟨2, _⟩ =>
    dsimp only
    rw [round16_getLsbD _ _ _ _ _ (by omega), if_pos (by omega), round8_getLsbD _ _ _ _ _ (by omega), if_neg (by omega), round4_getLsbD _ _ _ _ _ (by omega), if_pos (by omega)]
    exact congrArg _ (by omega)
  | ⟨3, _⟩ =>
    dsimp only
    rw [round16_getLsbD _ _ _ _ _ (by omega), if_pos (by omega), round8_getLsbD _ _ _ _ _ (by omega), if_neg (by omega), round4_getLsbD _ _ _ _ _ (by omega), if_neg (by omega)]
    exact congrArg _ (by omega)
  | ⟨4, _⟩ =>
    dsimp only
    rw [round16_getLsbD _ _ _ _ _ (by omega), if_neg (by omega), round8_getLsbD _ _ _ _ _ (by omega), if_pos (by omega), round4_getLsbD _ _ _ _ _ (by omega), if_pos (by omega)]
    exact congrArg _ (by omega)
  | ⟨5, _⟩ =>
    dsimp only
    rw [round16_getLsbD _ _ _ _ _ (by omega), if_neg (by omega), round8_getLsbD _ _ _ _ _ (by omega), if_pos (by omega), round4_getLsbD _ _ _ _ _ (by omega), if_neg (by omega)]
    exact congrArg _ (by omega)
  | ⟨6, _⟩ =>
    dsimp only
    rw [round16_getLsbD _ _ _ _ _ (by omega), if_neg (by omega), round8_getLsbD _ _ _ _ _ (by omega), if_neg (by omega), round4_getLsbD _ _ _ _ _ (by omega), if_pos (by omega)]
    exact congrArg _ (by omega)
  | ⟨7, _⟩ =>
    dsimp only
    rw [round16_getLsbD _ _ _ _ _ (by omega), if_neg (by omega), round8_getLsbD _ _ _ _ _ (by omega), if_neg (by omega), round4_getLsbD _ _ _ _ _ (by omega), if_neg (by omega)]
    exact congrArg _ (by omega)

end Cert.KernelIdeal.Hand

end
-- ==== Proof.Words.lean ====
/- One nibble of a 32-bit word as an extended real: what both programs multiply with. The reference shifts the word
   down (with its sign) and masks; the kernel exchanges nibbles between words first and shifts the exchanged word. -/
module

public import Idealize.ShloMosaic.Lib.Pipeline.ValueKit
public import Idealize.ShloMosaic.PureOps.Ideal

@[expose] public section

noncomputable section

namespace Cert.Words

open Idealize.ShloMosaic

/-- The four bits of `w` from bit `k` on, read as a number from 0 to 15. -/
def nib (w : BitVec 32) (k : ℕ) : EReal := (((w.extractLsb' k 4).toNat : ℝ) : EReal)

theorem and15_getLsbD (v : BitVec 32) (q : ℕ) : (v &&& 15#32).getLsbD q = (decide (q < 4) && v.getLsbD q) := by
  rw [BitVec.getLsbD_and]
  by_cases hq : q < 4
  · have : (15#32 : BitVec 32).getLsbD q = true := by interval_cases q <;> rfl
    simp [hq, this]
  · have : (15#32 : BitVec 32).getLsbD q = false := by
      by_cases h : q < 32
      · interval_cases q <;> first | rfl | omega
      · exact BitVec.getLsbD_of_ge _ _ (by omega)
    simp [hq, this]

/-- A word shifted down by `s` with its sign, masked to four bits, is the four bits from `s` on. -/
theorem shifted_and15 (u : ArithUnit) (w s : BitVec 32) (hs : s.toNat ≤ 28) :
    IntOp.andi (IntOp.shrsi u w s) 15#32 = (w.extractLsb' s.toNat 4).setWidth 32 := by
  unfold IntOp.andi IntOp.shrsi
  rw [if_pos (by omega)]
  apply BitVec.eq_of_getLsbD_eq
  intro q hq
  rw [and15_getLsbD, BitVec.sshiftRight', BitVec.getLsbD_sshiftRight, BitVec.getLsbD_setWidth, BitVec.getLsbD_extractLsb']
  by_cases h4 : q < 4
  · have h1 : ¬ 32 ≤ q := by omega
    have h2 : s.toNat + q < 32 := by omega
    simp [h4, h1, h2, hq]
  · simp [h4]

theorem toNat_setWidth4 (b : BitVec 4) : (b.setWidth 32).toNat = b.toNat := by
  rw [BitVec.toNat_setWidth]; have := b.isLt; omega

theorem toInt_setWidth4 (b : BitVec 4) : (b.setWidth 32).toInt = (b.toNat : ℤ) := by
  have h := b.isLt
  rw [BitVec.toInt_eq_toNat_of_lt (by rw [toNat_setWidth4]; omega), toNat_setWidth4]

/-- The reference's reading: signed, of the 32-bit word. -/
theorem signed_nib (u : ArithUnit) (w s : BitVec 32) (hs : s.toNat ≤ 28) :
    (((IntOp.andi (IntOp.shrsi u w s) 15#32).toInt : ℝ) : EReal) = nib w s.toNat := by
  rw [shifted_and15 u w s hs, toInt_setWidth4, nib]
  norm_cast

/-- Cutting the masked word to four bits keeps them. -/
theorem trunc4_and15 (u : ArithUnit) (w s : BitVec 32) (hs : s.toNat ≤ 28) :
    (IntOp.andi (IntOp.shrsi u w s) 15#32).setWidth 4 = w.extractLsb' s.toNat 4 := by
  rw [shifted_and15 u w s hs]
  simp

/-- Two words with the same four bits, each at its own place, have the same nibble there. -/
theorem nib_congr {v w : BitVec 32} {k l : ℕ} (h : ∀ b < 4, v.getLsbD (k + b) = w.getLsbD (l + b)) : nib v k = nib w l := by
  have : v.extractLsb' k 4 = w.extractLsb' l 4 := by
    apply BitVec.eq_of_getLsbD_eq
    intro q hq
    simp [h q hq]
  rw [nib, nib, this]

end Cert.Words

end
-- ==== Proof.Stage.lean ====
/- One block of packed weights after the nibble exchange. The kernel takes the 2048 x 128 block 64 rows at a time: of
   each 64 rows it reads eight interleaved sets of eight rows, exchanges their nibbles and stores the eight results
   side by side in an 8 x 1024 strip of the scratch buffer. Here: the 256 tiles stored, in order, as a list given by
   a recursion; what the scratch then holds, as one function of the block; and the read-back of the whole buffer. -/
module

public import proofs.«01_k».proof.Proof.Nibbles
public import proofs.«01_k».proof.Proof.Words
public import Idealize.ShloMosaic.Lib.Pipeline.ReadBack

@[expose] public section

set_option maxRecDepth 16384

noncomputable section

namespace Cert.KernelIdeal.Hand

open Cert.KernelIdeal Cert.KernelIdeal.Gen Idealize.ShloMosaic Idealize.SL.Sem

variable {F : FTy → Type} [FloatOps F]

/-- Rows `64 g + r`, `64 g + 8 + r`, …, `64 g + 56 + r` of the block. -/
def rowsRect (g : ℕ) (hg : g < 32) (r : ℕ) (hr : r < 8) : LoadRect S2048x128 where
  off := ![64 * g + r, 0]
  size := S8x128.size
  stride := ![8, 1]
  inb := Fin.forall_fin_two.mpr ⟨.inr (by show 64 * g + r + 8 * (8 - 1) < 2048; omega), .inr (by show 0 + 1 * (128 - 1) < 128; omega)⟩

/-- Where tile `j` of strip `g` is stored. -/
def tileRect (g : ℕ) (hg : g < 32) (j : ℕ) (hj : j < 8) : Rect S256x1024 :=
  Rect.unit ![8 * g, 128 * j] S8x128.size
    (Fin.forall_fin_two.mpr ⟨by show 8 * g + 8 ≤ 256; omega, by show 128 * j + 128 ≤ 1024; omega⟩)

theorem mem_tileRect (g : ℕ) (hg : g < 32) (j : ℕ) (hj : j < 8) (y : S256x1024.Idx) (h0 : 8 * g ≤ (y 0).val)
    (h0' : (y 0).val < 8 * g + 8) (h1 : 128 * j ≤ (y 1).val) (h1' : (y 1).val < 128 * j + 128) : y ∈ (tileRect g hg j hj).set := by
  unfold tileRect
  rw [Rect.mem_set_unit]
  exact Fin.forall_fin_two.mpr ⟨⟨h0, h0'⟩, ⟨h1, h1'⟩⟩

section
variable {κ : Kind} {sp : Space} (v : View sig κ sp S2048x128 .i32) (f : v.ty.Contents (Elt F))

/-- The eight sets of rows of strip `g`, as read off the staged block. -/
def rows (g : ℕ) (hg : g < 32) (r : Fin 8) : IVec S8x128 32 := v.readAt (Elt F) (rowsRect g hg r.val r.isLt) f

/-- Tile `j` of strip `g`. -/
def tile (g : ℕ) (hg : g < 32) (j : ℕ) : IVec S8x128 32 :=
  exchanged ⟨j % 2, Nat.mod_lt _ Nat.zero_lt_two⟩ ⟨j / 2 % 2, Nat.mod_lt _ Nat.zero_lt_two⟩ ⟨j / 4 % 2, Nat.mod_lt _ Nat.zero_lt_two⟩
    (rows v f g hg 0) (rows v f g hg 1) (rows v f g hg 2) (rows v f g hg 3)
    (rows v f g hg 4) (rows v f g hg 5) (rows v f g hg 6) (rows v f g hg 7)

/-- The tiles stored up to the `k`-th, last first: tile `k % 8` of strip `k / 8` is the `k`-th. -/
def tiles : (k : ℕ) → k ≤ 256 → List (View.Piece (Elt F) S256x1024 .i32)
  | 0, _ => []
  | k + 1, hk => ⟨tileRect (k / 8) (by omega) (k % 8) (Nat.mod_lt _ (by decide)),
      shapeCast S8x128 (tile v f (k / 8) (by omega) (k % 8)) shapeCasts_S8x128_S8x128⟩ :: tiles k (by omega)

/-! ## What the tiles leave in the scratch buffer -/

/-- The scratch after all tiles: row `y 0` belongs to strip `y 0 / 8`, lane `y 1` to tile `y 1 / 128`. -/
def slab (y : S256x1024.Idx) : BitVec 32 :=
  tile v f ((y 0).val / 8) (Nat.div_lt_of_lt_mul (y 0).isLt) ((y 1).val / 128)
    (ValueIdx.ix2 ⟨(y 0).val % 8, Nat.mod_lt _ (by decide)⟩ ⟨(y 1).val % 128, Nat.mod_lt _ (by decide)⟩)

theorem tile_congr {g g' : ℕ} (hg : g < 32) (hg' : g' < 32) {j j' : ℕ} {i i' : S8x128.Idx} (eg : g = g') (ej : j = j') (ei : i = i') :
    tile v f g hg j i = tile v f g' hg' j' i' := by
  subst eg ej ei; rfl

theorem tiles_eq_slab : ∀ (k : ℕ) (hk : k ≤ 256) (p : View.Piece (Elt F) S256x1024 .i32), p ∈ tiles v f k hk →
    ∀ x : p.1.shape.Idx, p.2 x = slab v f (p.1.emb x)
  | 0, _, _, hp, _ => absurd hp List.not_mem_nil
  | k + 1, hk, p, hp, x => by
    rcases List.mem_cons.mp hp with rfl | hp
    · have h0 : (x 0).val < 8 := (x 0).isLt
      have h1 : (x 1).val < 128 := (x 1).isLt
      show shapeCast S8x128 (tile v f (k / 8) _ (k % 8)) shapeCasts_S8x128_S8x128 x = _
      rw [shapeCast_self]
      have e0 : (((tileRect (k / 8) (by omega) (k % 8) (Nat.mod_lt _ (by decide))).emb x) 0).val = 8 * (k / 8) + 1 * (x 0).val := rfl
      have e1 : (((tileRect (k / 8) (by omega) (k % 8) (Nat.mod_lt _ (by decide))).emb x) 1).val = 128 * (k % 8) + 1 * (x 1).val := rfl
      refine tile_congr v f _ _ (by rw [e0]; omega) (by rw [e1]; omega) ?_
      funext a
      match a with
      | ⟨0, _⟩ => exact Fin.ext (show (x 0).val = _ % 8 by rw [e0]; omega)
      | ⟨1, _⟩ => exact Fin.ext (show (x 1).val = _ % 128 by rw [e1]; omega)
    · exact tiles_eq_slab k (by omega) p hp x

/-- Every tile below the `k`-th has been stored. -/
theorem tile_mem_tiles : ∀ (k : ℕ) (hk : k ≤ 256) (n : ℕ) (hn : n < k),
    (⟨tileRect (n / 8) (by omega) (n % 8) (Nat.mod_lt _ (by decide)),
      shapeCast S8x128 (tile v f (n / 8) (by omega) (n % 8)) shapeCasts_S8x128_S8x128⟩ : View.Piece (Elt F) S256x1024 .i32) ∈ tiles v f k hk
  | 0, _, n, hn => absurd hn (Nat.not_lt_zero n)
  | k + 1, hk, n, hn => by
    rcases Nat.lt_succ_iff_lt_or_eq.mp hn with h | rfl
    · exact List.mem_cons_of_mem _ (tile_mem_tiles k (by omega) n h)
    · exact List.mem_cons_self ..

/-- The whole scratch read back after the 256 stores. -/
theorem readCov_tiles {κ' : Kind} {sp' : Space} (u : View sig κ' sp' S256x1024 .i32) (inb) :
    u.readCov (tiles v f 256 (Nat.le_refl _)) (Rect.unit ![0, 0] S256x1024.size inb).toLoadRect = slab v f := by
  rw [View.readCov_eq_canon']
  funext y
  have hy : (Rect.unit ![0, 0] S256x1024.size inb).toLoadRect.idx y = y := by
    funext a
    match a with
    | ⟨0, _⟩ => exact Fin.ext (show 0 + 1 * (y 0).val = (y 0).val by omega)
    | ⟨1, _⟩ => exact Fin.ext (show 0 + 1 * (y 1).val = (y 1).val by omega)
  rw [hy]
  refine View.canon_apply_of_pieces (Val := Elt F) (e := .i32) (slab v f) _ (tiles_eq_slab v f 256 (Nat.le_refl _)) y ?_
  have h0 : (y 0).val < 256 := (y 0).isLt
  have h1 : (y 1).val < 1024 := (y 1).isLt
  refine ⟨_, tile_mem_tiles v f 256 (Nat.le_refl _) (8 * ((y 0).val / 8) + (y 1).val / 128) (by omega), ?_⟩
  exact mem_tileRect _ (by omega) _ (Nat.mod_lt _ (by decide)) y (by omega) (by omega) (by omega) (by omega)

/-- Bit `b` of nibble `r` of the scratch word at row `y 0`, lane `128 j + l`, is bit `b` of nibble `j` of the block's
    word at row `8 (y 0) + r`, lane `l`. -/
theorem slab_getLsbD (y : S256x1024.Idx) (r : Fin 8) (b : ℕ) (hb : b < 4) :
    (slab v f y).getLsbD (4 * r.val + b)
      = (v.read (Elt F) f (ValueIdx.ix2 ⟨8 * (y 0).val + r.val, by have : (y 0).val < 256 := (y 0).isLt; omega⟩
          ⟨(y 1).val % 128, Nat.mod_lt _ (by decide)⟩) : BitVec 32).getLsbD (4 * ((y 1).val / 128) + b) := by
  have h0 : (y 0).val < 256 := (y 0).isLt
  have h1 : (y 1).val < 1024 := (y 1).isLt
  unfold slab tile
  rw [exchanged_getLsbD _ _ _ (rows v f ((y 0).val / 8) (by omega)) _ r b hb]
  have hj : (y 1).val / 128 % 2 + 2 * ((y 1).val / 128 / 2 % 2) + 4 * ((y 1).val / 128 / 4 % 2) = (y 1).val / 128 := by omega
  show BitVec.getLsbD _ (4 * ((y 1).val / 128 % 2 + 2 * ((y 1).val / 128 / 2 % 2) + 4 * ((y 1).val / 128 / 4 % 2)) + b) = _
  rw [hj]
  refine congrArg (fun i => BitVec.getLsbD (w := 32) (v.read (Elt F) f i) _) ?_
  funext a
  match a with
  | ⟨0, _⟩ => exact Fin.ext (show 64 * ((y 0).val / 8) + r.val + 8 * ((y 0).val % 8) = 8 * (y 0).val + r.val by omega)
  | ⟨1, _⟩ => exact Fin.ext (show 0 + 1 * ((y 1).val % 128) = (y 1).val % 128 by omega)

/-- So a nibble of the scratch is a nibble of the block. -/
theorem nib_slab (y : S256x1024.Idx) (r : Fin 8) :
    Words.nib (slab v f y) (4 * r.val)
      = Words.nib (v.read (Elt F) f (ValueIdx.ix2 ⟨8 * (y 0).val + r.val, by have : (y 0).val < 256 := (y 0).isLt; omega⟩
          ⟨(y 1).val % 128, Nat.mod_lt _ (by decide)⟩)) (4 * ((y 1).val / 128)) :=
  Words.nib_congr fun b hb => slab_getLsbD v f y r b hb

end

end Cert.KernelIdeal.Hand

end
-- ==== Proof.Steps.lean ====
/- What one grid point leaves in the accumulators and, at the last point of a column block, in the output block: the
   body's own terms, with the scratch of exchanged weights read back as one function of the staged block. -/
module

public import proofs.«01_k».proof.Proof.Gen.KernelIdeal.Frame
public import proofs.«01_k».proof.Proof.Stage

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- A read-back depends on the list of stores alone. -/
theorem readCov_of_eq {κ : Kind} {sp : Space} {s : Shape} {e : EltTy} (v : View sig κ sp s e) {L L' : List (View.Piece (Elt F) s e)}
    (h : L = L') (B : LoadRect s) : v.readCov L B = v.readCov L' B := by rw [h]

/-- The exchanged weights of point `t`'s block. -/
def weights (c : Dev nD) (t : Fin cfg0.N) : Vec F S256x1024 .i32 := slab (F := F) (ms0_1 t).view ((hs0_1 t).unread (iblk m c 1 t))

/-- One point's accumulation: what was there plus the block product. -/
def accStep (x : Vec F S48x2048 .bf16) (q : Vec F S256x1024 .i32) (a : Vec F S48x1024 .f32) : Vec F S48x1024 .f32 :=
  k0_pay1 (k0_pay1230 (k0_pay1226 x) (k0_pay1228 q) k0_pay1229 a)

theorem acc_A (c : Dev nD) (t : Fin cfg0.N) (h0 : t.val % 8 = 0) (h1 : ¬t.val % 8 = 7) :
    (outsAt0 m c t.val t.isLt).2.1 = accStep (iblk m c 0 t) (weights m c t) k0_pay14 := by
  rw [outsAt0_A m c t h0 h1]
  frame_open
  rw [readCov_of_eq (F := F) scM0_2.view (L' := tiles (F := F) (ms0_1 t).view ((hs0_1 t).unread (iblk m c 1 t)) 256 (Nat.le_refl _)) ?h]
  case h => rfl
  rw [readCov_tiles]
  frame_out [read_unread_whole]
  rfl

theorem acc_B (c : Dev nD) (t : Fin cfg0.N) (h0 : ¬t.val % 8 = 0) (h1 : ¬t.val % 8 = 7) :
    (outsAt0 m c t.val t.isLt).2.1 = accStep (iblk m c 0 t) (weights m c t) (outsAt0 m c (t.val - 1) (Nat.lt_of_le_of_lt (Nat.sub_le _ _) t.isLt)).2.1 := by
  rw [outsAt0_B m c t h0 h1]
  frame_open
  rw [readCov_of_eq (F := F) scM0_2.view (L' := tiles (F := F) (ms0_1 t).view ((hs0_1 t).unread (iblk m c 1 t)) 256 (Nat.le_refl _)) ?h]
  case h => rfl
  rw [readCov_tiles]
  frame_out [read_unread_whole]
  rfl

theorem acc_C (c : Dev nD) (t : Fin cfg0.N) (h0 : ¬t.val % 8 = 0) (h1 : t.val % 8 = 7) :
    (outsAt0 m c t.val t.isLt).2.1 = accStep (iblk m c 0 t) (weights m c t) (outsAt0 m c (t.val - 1) (Nat.lt_of_le_of_lt (Nat.sub_le _ _) t.isLt)).2.1 := by
  rw [outsAt0_C m c t h0 h1]
  frame_open
  rw [readCov_of_eq (F := F) scM0_2.view (L' := tiles (F := F) (ms0_1 t).view ((hs0_1 t).unread (iblk m c 1 t)) 256 (Nat.le_refl _)) ?h]
  case h => rfl
  rw [readCov_tiles]
  frame_out [read_unread_whole]
  rfl

theorem sum_A (c : Dev nD) (t : Fin cfg0.N) (h0 : t.val % 8 = 0) (h1 : ¬t.val % 8 = 7) :
    (outsAt0 m c t.val t.isLt).2.2 = k0_pay1227 (iblk m c 0 t) k0_pay15 := by
  rw [outsAt0_A m c t h0 h1]
  frame_out [read_unread_whole]

theorem sum_B (c : Dev nD) (t : Fin cfg0.N) (h0 : ¬t.val % 8 = 0) (h1 : ¬t.val % 8 = 7) :
    (outsAt0 m c t.val t.isLt).2.2 = k0_pay1227 (iblk m c 0 t) (outsAt0 m c (t.val - 1) (Nat.lt_of_le_of_lt (Nat.sub_le _ _) t.isLt)).2.2 := by
  rw [outsAt0_B m c t h0 h1]
  frame_out [read_unread_whole]

theorem sum_C (c : Dev nD) (t : Fin cfg0.N) (h0 : ¬t.val % 8 = 0) (h1 : t.val % 8 = 7) :
    (outsAt0 m c t.val t.isLt).2.2 = k0_pay1227 (iblk m c 0 t) (outsAt0 m c (t.val - 1) (Nat.lt_of_le_of_lt (Nat.sub_le _ _) t.isLt)).2.2 := by
  rw [outsAt0_C m c t h0 h1]
  frame_out [read_unread_whole]

/-- The eight stores of the output block, last first: sublane `j` from columns `128 * i …` of the accumulator, the nibble
    of the zero words `i` places up, and row `j` of the scales. -/
def outPieces (a : Vec F S48x1024 .f32) (r : Vec F S48x1 .f32) (z : Vec F S1x128 .i32) (s : Vec F S8x128 .f32) :
    List (View.Piece (Elt F) S8x48x128 .bf16) :=
  let part (o : ℕ) (inb : ∀ i, (![0, o] : Fin 2 → ℕ) i + S48x128.size i ≤ S48x1024.size i) : Vec F S48x128 .f32 :=
    fun x => a ((Rect.unit (s := S48x1024) ![0, o] S48x128.size inb).idx x)
  let row (o : ℕ) (inb : ∀ i, (![o, 0] : Fin 2 → ℕ) i + S1x128.size i ≤ S8x128.size i) : Vec F S1x128 .f32 :=
    View.ld s (Rect.unit (s := S8x128) ![o, 0] S1x128.size inb)
  [⟨Rect.unit ![7, 0, 0] S1x48x128.size inb_S8x48x128_S1x48x128_7_0_0,
      k0_pay2 r (k0_pay13 z) (part 896 inb_S48x1024_S48x128_0_896) (row 7 inb_S8x128_S1x128_7_0)⟩,
    ⟨Rect.unit ![5, 0, 0] S1x48x128.size inb_S8x48x128_S1x48x128_5_0_0,
      k0_pay12 r z (part 768 inb_S48x1024_S48x128_0_768) (row 5 inb_S8x128_S1x128_5_0)⟩,
    ⟨Rect.unit ![3, 0, 0] S1x48x128.size inb_S8x48x128_S1x48x128_3_0_0,
      k0_pay11 (part 640 inb_S48x1024_S48x128_0_640) (k0_pay10 r z) (row 3 inb_S8x128_S1x128_3_0)⟩,
    ⟨Rect.unit ![1, 0, 0] S1x48x128.size inb_S8x48x128_S1x48x128_1_0_0,
      k0_pay9 r z (part 512 inb_S48x1024_S48x128_0_512) (row 1 inb_S8x128_S1x128_1_0)⟩,
    ⟨Rect.unit ![6, 0, 0] S1x48x128.size inb_S8x48x128_S1x48x128_6_0_0,
      k0_pay8 (k0_pay7 r z (part 384 inb_S48x1024_S48x128_0_384)) (row 6 inb_S8x128_S1x128_6_0)⟩,
    ⟨Rect.unit ![4, 0, 0] S1x48x128.size inb_S8x48x128_S1x48x128_4_0_0,
      k0_pay6 r z (part 256 inb_S48x1024_S48x128_0_256) (row 4 inb_S8x128_S1x128_4_0)⟩,
    ⟨Rect.unit ![2, 0, 0] S1x48x128.size inb_S8x48x128_S1x48x128_2_0_0,
      k0_pay5 (k0_pay4 r z (part 128 inb_S48x1024_S48x128_0_128) (row 2 inb_S8x128_S1x128_2_0))⟩,
    ⟨Rect.unit ![0, 0, 0] S1x48x128.size inb_S8x48x128_S1x48x128_0_0_0,
      k0_pay3 r z (part 0 inb_S48x1024_S48x128_0_0) (row 0 inb_S8x128_S1x128_0_0)⟩]

/-- The output block of the last point of a column block, from what the accumulators then hold. -/
theorem out_C (c : Dev nD) (t : Fin cfg0.N) (h0 : ¬t.val % 8 = 0) (h1 : t.val % 8 = 7) :
    (outsAt0 m c t.val t.isLt).1 = View.canon (outPieces (outsAt0 m c t.val t.isLt).2.1 (outsAt0 m c t.val t.isLt).2.2 (iblk m c 2 t) (iblk m c 3 t)) := by
  rw [acc_C m c t h0 h1, sum_C m c t h0 h1, outsAt0_C m c t h0 h1]
  frame_open
  rw [readCov_of_eq (F := F) scM0_2.view (L' := tiles (F := F) (ms0_1 t).view ((hs0_1 t).unread (iblk m c 1 t)) 256 (Nat.le_refl _)) ?h]
  case h => rfl
  rw [readCov_tiles]
  frame_out [read_unread_whole]
  simp (disch := decide) only [View.readCov_eq_canon', View.canon_cons_unit_lit', View.canon_cons_unit_lit' (S := S48x1024)]
  rfl

end Cert.KernelIdeal.Hand

end
-- ==== Proof.RefValue.lean ====
/- What the reference computes, entry by entry. Output channel `c = 8 l + p` reads packed column `l` at the nibble that
   AWQ's interleaving puts at place `p`. -/
module

public import proofs.«01_k».proof.Proof.Gen.ReferenceIdeal.Run
public import proofs.«01_k».proof.Proof.Words

@[expose] public section

set_option maxRecDepth 16384

noncomputable section

namespace Cert.Formula

open Idealize.ShloMosaic Cert.Words

/-- The bit at which the nibble of channel `8 l + p` begins in the packed word of column `l`. -/
def shift : Fin 8 → ℕ := ![0, 16, 4, 20, 8, 24, 12, 28]

/-- Entry `(n, 8 l + p)` of the product: activations times nibbles, less the zero point times the sum of the
    activations, all times the channel's scale. -/
def entry (X : Fin 48 → Fin 16384 → EReal) (W : Fin 16384 → Fin 896 → BitVec 32) (Z : Fin 896 → BitVec 32) (s : Fin 7168 → EReal)
    (n : Fin 48) (l : Fin 896) (p : Fin 8) : EReal :=
  (∑ d : Fin 16384, X n d * nib (W d l) (shift p) - nib (Z l) (shift p) * ∑ d : Fin 16384, X n d) * s ⟨8 * l.val + p.val, by omega⟩

end Cert.Formula

namespace Cert.ReferenceIdeal.Hand

open Cert.ReferenceIdeal Cert.ReferenceIdeal.Gen Cert.Words Cert.Formula Idealize.ShloMosaic Idealize.SL.Sem

theorem lit0_shift (p : Fin 8) : (lit0 p).toNat = shift p := by
  match p with
  | ⟨0, _⟩ | ⟨1, _⟩ | ⟨2, _⟩ | ⟨3, _⟩ | ⟨4, _⟩ | ⟨5, _⟩ | ⟨6, _⟩ | ⟨7, _⟩ => rfl

theorem shift_le (p : Fin 8) : shift p ≤ 28 := by
  revert p; decide

/-- The word the reference multiplies with, as a nibble. -/
theorem sitofp_nib (φ : FTy) (w : BitVec 32) (p : Fin 8) :
    (FloatOps.sitofp φ (IntOp.andi (IntOp.shrsi .host w (lit0 (S8.rowMajor (ix1 p)))) 15#32) : Ideal φ) = nib w (shift p) := by
  have h : S8.rowMajor (ix1 p) = p := Fin.ext (Idealize.ShloMosaic.rowMajor_val1 _)
  rw [h, ← lit0_shift p]
  exact signed_nib _ _ _ (by rw [lit0_shift]; exact shift_le p)

/-- The reference's result at its four arguments. -/
def result (x : FVec Ideal S48x1x16384 .bf16) (w : IVec S16384x896 32) (z : IVec S896 32) (s : FVec Ideal S7168 .f32) :
    FVec Ideal S48x1x7168 .bf16 :=
  truncf .bf16 (shapeCast _ (transpose S48x896x8 [0, 2, 1] (mulf (subf (Host.dotGeneral dot_S48x16384_S16384x8x896_S48x8x896_1_0_0_12_n_n none (shapeCast _ x shapeCasts_S48x1x16384_S48x16384) (sitofp .bf16 (andi (Host.shrsi (broadcastInDim S16384x8x896 ![0, 1, 2] bcast_S16384x1x896_S16384x8x896_0_1_2 (broadcastInDim S16384x1x896 ![0, 2] bcast_S16384x896_S16384x1x896_0_2 w)) (broadcastInDim S16384x8x896 ![0, 1, 2] bcast_S1x8x1_S16384x8x896_0_1_2 (broadcastInDim S1x8x1 ![1] bcast_S8_S1x8x1_1 ((fun i => lit0 (S8.rowMajor i)))))) (broadcastInDim S16384x8x896 ![] bcast_S_S16384x8x896 (constantI S_ 32 15#32))))) (mulf (broadcastInDim S48x8x896 ![0, 1, 2] bcast_S1x8x896_S48x8x896_0_1_2 (broadcastInDim S1x8x896 ![1, 2] bcast_S8x896_S1x8x896_1_2 (sitofp .f32 (andi (Host.shrsi (broadcastInDim S8x896 ![0, 1] bcast_S1x896_S8x896_0_1 (broadcastInDim S1x896 ![1] bcast_S896_S1x896_1 z)) (broadcastInDim S8x896 ![0, 1] bcast_S8x1_S8x896_0_1 (broadcastInDim S8x1 ![0] bcast_S8_S8x1_0 ((fun i => lit0 (S8.rowMajor i)))))) (broadcastInDim S8x896 ![] bcast_S_S8x896 (constantI S_ 32 15#32)))))) (broadcastInDim S48x8x896 ![0, 1, 2] bcast_S48x1x1_S48x8x896_0_1_2 (broadcastInDim S48x1x1 ![0, 1] bcast_S48x1_S48x1x1_0_1 (broadcastInDim S48x1 ![0] bcast_S48_S48x1_0 (Host.reduceAdd (extf .f32 (shapeCast _ x shapeCasts_S48x1x16384_S48x16384) bitsLt_bf16_f32) (constant S_ .f32 0x00000000#32) reducesTo_S48x16384_S48_d1 h_S_)))))) (broadcastInDim S48x8x896 ![0, 1, 2] bcast_S1x8x896_S48x8x896_0_1_2 (broadcastInDim S1x8x896 ![1, 2] bcast_S8x896_S1x8x896_1_2 (transpose S8x896 [1, 0] (shapeCast _ s shapeCasts_S7168_S896x8) transposes_S896x8_S8x896_1_0)))) transposes_S48x8x896_S48x896x8_0_2_1) shapeCasts_S48x896x8_S48x1x7168) bitsLt_bf16_f32

theorem result_apply (x : FVec Ideal S48x1x16384 .bf16) (w : IVec S16384x896 32) (z : IVec S896 32) (s : FVec Ideal S7168 .f32)
    (j : S48x1x7168.Idx) :
    result x w z s j = entry (fun n d => x (ix3 n 0 d)) (fun d l => w (ix2 d l)) (fun l => z (ix1 l)) (fun c => s (ix1 c))
      (j 0) ⟨(j 2).val / 8, Nat.div_lt_of_lt_mul (j 2).isLt⟩ ⟨(j 2).val % 8, Nat.mod_lt _ (by decide)⟩ := by
  unfold result entry
  pointwise
  simp only [sitofp_nib]
  congr 3
  exact Fin.ext (by show (j 2).val = 8 * ((j 2).val / 8) + (j 2).val % 8; omega)

end Cert.ReferenceIdeal.Hand

end
-- ==== Proof.StepValue.lean ====
/- The same step read one entry at a time on extended reals: a block product of activations with nibbles, a row sum, and
   the scaled, zero-corrected output. -/
module

public import proofs.«01_k».proof.Proof.Steps
public import proofs.«01_k».proof.Proof.RefValue

@[expose] public section

set_option maxRecDepth 16384

noncomputable section

namespace Cert.KernelIdeal.Hand

open Cert.KernelIdeal Cert.KernelIdeal.Gen Idealize.ShloMosaic Idealize.ShloMosaic.TcCoe Idealize.SL.Sem
open Cert.Words

variable (m : (ℓ : Loc nD τ sig) → Buf (Elt Ideal) ℓ)

theorem shift_word (k : ℕ) : (IntOp.muli 4#32 (BitVec.ofNat 32 (k % 8))).toNat = 4 * (k % 8) := by
  have h : ∀ r : Fin 8, (IntOp.muli 4#32 (BitVec.ofNat 32 r.val)).toNat = 4 * r.val := by decide
  exact h ⟨k % 8, Nat.mod_lt _ (by decide)⟩

/-- A weight nibble, as the body shifts, masks, narrows and converts it. -/
theorem uitofp_word (w : BitVec 32) (k : ℕ) :
    (FloatOps.uitofp .bf16 (BitVec.setWidth 4 (IntOp.andi (IntOp.shrsi .vector w (IntOp.muli 4#32 (BitVec.ofNat 32 (k % 8)))) 15#32)) : Ideal .bf16)
      = nib w (4 * (k % 8)) := by
  have h := shift_word k
  rw [trunc4_and15 _ _ _ (by omega), h]
  rfl

/-- One point adds, to every entry, the products of its 2048 activations with the nibbles of the exchanged words. -/
theorem accStep_apply (x : Vec Ideal S48x2048 .bf16) (q : Vec Ideal S256x1024 .i32) (a : Vec Ideal S48x1024 .f32) (n : Fin 48) (l : Fin 1024) :
    accStep x q a (ix2 n l) = (a (ix2 n l) : EReal) + ∑ k : Fin 2048, x (ix2 n k) * nib (q (ix2 ⟨k.val / 8, by omega⟩ l)) (4 * (k.val % 8)) := by
  unfold accStep
  unfold_payloads
  pointwise
  simp only [uitofp_word]

/-- A nibble of the exchanged words is a nibble of the staged block's word. -/
theorem nib_weights (c : Dev nD) (t : Fin cfg0.N) (k : Fin 2048) (l : Fin 1024) :
    nib (weights m c t (ix2 ⟨k.val / 8, by omega⟩ l)) (4 * (k.val % 8))
      = nib (iblk m c 1 t (ix2 k ⟨l.val % 128, Nat.mod_lt _ (by decide)⟩ : S2048x128.Idx)) (4 * (l.val / 128)) := by
  have h := nib_slab (F := Ideal) (ms0_1 t).view ((hs0_1 t).unread (iblk m c 1 t)) (ix2 ⟨k.val / 8, by omega⟩ l) ⟨k.val % 8, Nat.mod_lt _ (by decide)⟩
  rw [(hs0_1 t).read_unread] at h
  refine h.trans ?_
  refine congrArg (fun i => nib (iblk m c 1 t i) _) ?_
  rw [← ix2_eq_valueIdx]
  exact congrArg₂ ix2 (Fin.ext (Nat.div_add_mod k.val 8)) rfl

theorem sumStep_apply (x : Vec Ideal S48x2048 .bf16) (r : Vec Ideal S48x1 .f32) (n : Fin 48) :
    k0_pay1227 x r (ix2 n 0) = (r (ix2 n 0) : EReal) + ∑ k : Fin 2048, x (ix2 n k) := by
  unfold_payloads
  pointwise

theorem col_lt (p : Fin 8) (l : ℕ) (hl : l < 128) : 32 * Cert.Formula.shift p + l < 1024 := by
  have h := Cert.ReferenceIdeal.Hand.shift_le p
  omega

/-- A zero word's nibble, as the body converts it. -/
theorem sitofp_word (w s : BitVec 32) (hs : s.toNat ≤ 28) :
    (FloatOps.sitofp .f32 (IntOp.andi (IntOp.shrsi .vector w s) 15#32) : Ideal .f32) = nib w s.toNat :=
  signed_nib _ _ _ hs

/-- The output block: nibble `shift j` of the zero word, row `j` of the scales, the columns of the accumulator that hold
    that nibble's products. -/
def outBlock (a : Vec Ideal S48x1024 .f32) (r : Vec Ideal S48x1 .f32) (z : Vec Ideal S1x128 .i32) (s : Vec Ideal S8x128 .f32) (y : S8x48x128.Idx) : EReal :=
  ((a (ix2 (y 1) ⟨32 * Cert.Formula.shift (y 0) + (y 2).val, col_lt _ _ (y 2).isLt⟩) : EReal)
      - nib (z (ix2 0 (y 2))) (Cert.Formula.shift (y 0)) * r (ix2 (y 1) 0)) * s (ix2 (y 0) (y 2))

/-- Row `o` of the output block is the rectangle at `(o, 0, 0)`. -/
theorem emb_row (o : Fin 8) (inb : ∀ i, (![o.val, 0, 0] : Fin 3 → ℕ) i + S1x48x128.size i ≤ S8x48x128.size i) (x : S1x48x128.Idx) :
    (Rect.unit (s := S8x48x128) ![o.val, 0, 0] S1x48x128.size inb).emb x = (ix3 o (x 1) (x 2) : S8x48x128.Idx) := by
  funext i
  have h : (x 0).val = 0 := by have h : (x 0).val < 1 := (x 0).isLt; omega
  revert i
  refine Fin.forall_fin_succ.mpr ⟨?_, Fin.forall_fin_two.mpr ⟨?_, ?_⟩⟩ <;> apply Fin.ext
  · show o.val + 1 * (x 0).val = o.val; omega
  · show 0 + 1 * (x 1).val = (x 1).val; omega
  · show 0 + 1 * (x 2).val = (x 2).val; omega

theorem piece_row (G : S8x48x128.Idx → EReal) (o : Fin 8) (inb : ∀ i, (![o.val, 0, 0] : Fin 3 → ℕ) i + S1x48x128.size i ≤ S8x48x128.size i)
    (w : S1x48x128.Idx → EReal) (h : ∀ x, w x = G (ix3 o (x 1) (x 2))) (x : S1x48x128.Idx) :
    w x = G ((Rect.unit (s := S8x48x128) ![o.val, 0, 0] S1x48x128.size inb).emb x) := by
  rw [emb_row, h]

theorem outPieces_apply (a : Vec Ideal S48x1024 .f32) (r : Vec Ideal S48x1 .f32) (z : Vec Ideal S1x128 .i32) (s : Vec Ideal S8x128 .f32) :
    View.canon (Val := Elt Ideal) (outPieces (F := Ideal) a r z s) = outBlock a r z s := by
  funext y
  refine View.canon_apply_of_pieces (Val := Elt Ideal) (e := .bf16) (outBlock a r z s) _ ?_ y ?_
  · unfold outPieces
    simp only [List.forall_mem_cons, List.not_mem_nil, false_imp_iff, implies_true, and_true]
    refine ⟨piece_row _ 7 _ _ ?_, piece_row _ 5 _ _ ?_, piece_row _ 3 _ _ ?_, piece_row _ 1 _ _ ?_,
      piece_row _ 6 _ _ ?_, piece_row _ 4 _ _ ?_, piece_row _ 2 _ _ ?_, piece_row _ 0 _ _ ?_⟩
    all_goals
      intro x
      unfold_payloads
      unfold outBlock
      pointwise
      simp (disch := decide) only [sitofp_word]
    all_goals simp [Cert.Formula.shift]
  · have h0 : (y 0).val < 8 := (y 0).isLt
    have h (o : ℕ) (inb) (e : (y 0).val = o) : y ∈ (Rect.unit (s := S8x48x128) ![o, 0, 0] S1x48x128.size inb).set := by
      rw [Rect.mem_set_unit]
      refine Fin.forall_fin_succ.mpr ⟨⟨e.ge, ?_⟩, Fin.forall_fin_two.mpr ⟨⟨Nat.zero_le _, ?_⟩, ⟨Nat.zero_le _, ?_⟩⟩⟩
      · show (y 0).val < o + 1; omega
      · exact (Nat.zero_add _).symm ▸ (y 1).isLt
      · exact (Nat.zero_add _).symm ▸ (y 2).isLt
    unfold outPieces
    simp only [List.exists_mem_cons_iff, List.not_mem_nil, false_and, exists_false, or_false]
    have e : (y 0).val = 7 ∨ (y 0).val = 5 ∨ (y 0).val = 3 ∨ (y 0).val = 1 ∨ (y 0).val = 6 ∨ (y 0).val = 4 ∨ (y 0).val = 2 ∨ (y 0).val = 0 := by omega
    exact e.imp (h _ _) (Or.imp (h _ _) (Or.imp (h _ _) (Or.imp (h _ _) (Or.imp (h _ _) (Or.imp (h _ _) (Or.imp (h _ _) (h _ _)))))))

end Cert.KernelIdeal.Hand

end
-- ==== Proof.Sums.lean ====
/- What the accumulators hold at the last of a column block's eight points: whole sums over the contracted axis of the
   argument arrays. -/
module

public import proofs.«01_k».proof.Proof.StepValue
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Cert.Words

variable (m : (ℓ : Loc nD τ sig) → Buf (Elt Ideal) ℓ)

/-- The activations and the weight words of point `t`. -/
def xBlk (c : Dev nD) (t : Fin cfg0.N) (n : Fin 48) (k : Fin 2048) : EReal := iblk m c 0 t (ix2 n k : S48x2048.Idx)

def wBlk (c : Dev nD) (t : Fin cfg0.N) (k : Fin 2048) (l : Fin 128) : BitVec 32 := iblk m c 1 t (ix2 k l : S2048x128.Idx)

/-- What point `t` adds to the accumulator. -/
def accTerm (c : Dev nD) (t : Fin cfg0.N) (i : S48x1024.Idx) : EReal :=
  ∑ k : Fin 2048, xBlk m c t (i 0) k * nib (wBlk m c t k ⟨(i 1).val % 128, Nat.mod_lt _ (by decide)⟩) (4 * ((i 1).val / 128))

/-- What point `t` adds to the row sums. -/
def sumTerm (c : Dev nD) (t : Fin cfg0.N) (i : S48x1.Idx) : EReal := ∑ k : Fin 2048, xBlk m c t (i 0) k

theorem accStep_weights (c : Dev nD) (t : Fin cfg0.N) (a : Vec Ideal S48x1024 .f32) (i : S48x1024.Idx) :
    accStep (iblk m c 0 t) (weights m c t) a i = (a i : EReal) + accTerm m c t i := by
  have h := accStep_apply (iblk m c 0 t) (weights m c t) a (i 0) (i 1)
  have e : (ix2 (i 0) (i 1) : S48x1024.Idx) = i := by funext b; revert b; exact Fin.forall_fin_two.mpr ⟨rfl, rfl⟩
  rw [e] at h
  refine h.trans (congrArg (fun s : EReal => (a i : EReal) + s) (Finset.sum_congr rfl fun k _ => ?_))
  exact congrArg (fun s : EReal => xBlk m c t (i 0) k * s) (nib_weights m c t k (i 1))

theorem sumStep_term (c : Dev nD) (t : Fin cfg0.N) (r : Vec Ideal S48x1 .f32) (i : S48x1.Idx) :
    k0_pay1227 (iblk m c 0 t) r i = (r i : EReal) + sumTerm m c t i := by
  have h := sumStep_apply (iblk m c 0 t) r (i 0)
  have e : (ix2 (i 0) 0 : S48x1.Idx) = i := by
    funext b; revert b
    refine Fin.forall_fin_two.mpr ⟨rfl, Fin.ext ?_⟩
    have h1 : (i 1).val < 1 := (i 1).isLt
    show 0 = (i 1).val; omega
  rw [e] at h
  exact h

theorem zero_acc (i : S48x1024.Idx) : (k0_pay14 (F := Ideal) i : EReal) = 0 := by
  unfold_payloads; pointwise

theorem zero_sum (i : S48x1.Idx) : (k0_pay15 (F := Ideal) i : EReal) = 0 := by
  unfold_payloads; pointwise

/-- The points of column block `t / 8` up to its last. -/
theorem acc_run (c : Dev nD) (t : Fin cfg0.N) (h1 : t.val % 8 = 7) (i : S48x1024.Idx) :
    ((outsAt0 m c t.val t.isLt).2.1 i : EReal)
      = ∑ s : Fin 8, accTerm m c ⟨8 * (t.val / 8) + s.val, Pipeline.run_point_lt_of_flush t h1 s⟩ i := by
  refine (Pipeline.eq_sum_fin_of_reset_step_apply_of_flush (M := EReal) (fun n h => (outsAt0 m c n h).2.1) 8 (fun _ => 0) (accTerm m c)
    (fun t h i => ?_) (fun t h i => ?_) t h1 i).trans (zero_add _)
  · show ((outsAt0 m c t.val t.isLt).2.1 i : EReal) = _
    rw [acc_A m c t h (by omega), accStep_weights, zero_acc]
  · show ((outsAt0 m c t.val t.isLt).2.1 i : EReal) = _
    by_cases h7 : t.val % 8 = 7
    · rw [acc_C m c t h h7, accStep_weights]
    · rw [acc_B m c t h h7, accStep_weights]

theorem sum_run (c : Dev nD) (t : Fin cfg0.N) (h1 : t.val % 8 = 7) (i : S48x1.Idx) :
    ((outsAt0 m c t.val t.isLt).2.2 i : EReal)
      = ∑ s : Fin 8, sumTerm m c ⟨8 * (t.val / 8) + s.val, Pipeline.run_point_lt_of_flush t h1 s⟩ i := by
  refine (Pipeline.eq_sum_fin_of_reset_step_apply_of_flush (M := EReal) (fun n h => (outsAt0 m c n h).2.2) 8 (fun _ => 0) (sumTerm m c)
    (fun t h i => ?_) (fun t h i => ?_) t h1 i).trans (zero_add _)
  · show ((outsAt0 m c t.val t.isLt).2.2 i : EReal) = _
    rw [sum_A m c t h (by omega), sumStep_term, zero_sum]
  · show ((outsAt0 m c t.val t.isLt).2.2 i : EReal) = _
    by_cases h7 : t.val % 8 = 7
    · rw [sum_C m c t h h7, sumStep_term]
    · rw [sum_B m c t h h7, sumStep_term]

/-! ## The blocks in the arrays -/

/-- Point `t` works on contracted block `t % 8` of column block `t / 8`. -/
theorem idx : ∀ t : Fin cfg0.N, (cfg0.win 0).index t = ![0, t.val % 8] ∧ (cfg0.win 1).index t = ![t.val % 8, t.val / 8]
    ∧ (cfg0.win 2).index t = ![0, t.val / 8] ∧ (cfg0.win 3).index t = ![0, t.val / 8] ∧ (cfg0.win 4).index t = ![0, 0, t.val / 8] := by
  decide +kernel

theorem div_lt (t : Fin cfg0.N) : t.val / 8 < 7 := by
  have h : t.val < 56 := lt_of_lt_of_eq t.isLt N_0
  omega

theorem x_block (c : Dev nD) (t : Fin cfg0.N) (n : Fin 48) (k : Fin 2048) :
    xBlk m c t n k
      = V m c main_v0 (ix2 n ⟨t.val % 8 * 2048 + k.val, by omega⟩ : S48x16384.Idx) := by
  unfold xBlk
  blk_ext [iblk, (idx t).1]

theorem w_block (c : Dev nD) (t : Fin cfg0.N) (k : Fin 2048) (l : Fin 128) :
    wBlk m c t k l
      = V m c main_arg1 (ix2 ⟨t.val % 8 * 2048 + k.val, by omega⟩ ⟨t.val / 8 * 128 + l.val, by have := div_lt t; omega⟩ : S16384x896.Idx) := by
  unfold wBlk
  blk_ext [iblk, (idx t).2.1]

theorem z_block (c : Dev nD) (t : Fin cfg0.N) (l : Fin 128) :
    (iblk m c 2 t (ix2 0 l : S1x128.Idx) : BitVec 32)
      = V m c main_v1 (ix2 0 ⟨t.val / 8 * 128 + l.val, by have := div_lt t; omega⟩ : S1x896.Idx) := by
  blk_ext [iblk, (idx t).2.2.1]

theorem s_block (c : Dev nD) (t : Fin cfg0.N) (j : Fin 8) (l : Fin 128) :
    (iblk m c 3 t (ix2 j l : S8x128.Idx) : EReal)
      = V m c main_v3 (ix2 j ⟨t.val / 8 * 128 + l.val, by have := div_lt t; omega⟩ : S8x896.Idx) := by
  blk_ext [iblk, (idx t).2.2.2.1]

end Cert.KernelIdeal.Hand

end
-- ==== Proof.Array.lean ====
/- The array that the kernel's call leaves: entry `(j, n, l)` is the formula's entry for row `n`, packed column `l` and
   nibble place `j`. -/
module

public import proofs.«01_k».proof.Proof.Sums
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Cert.Words Cert.Formula

variable (m : (ℓ : Loc nD τ sig) → Buf (Elt Ideal) ℓ)

/-- The four arguments of the call as the region finds them. -/
def X (c : Dev nD) (n : Fin 48) (d : Fin 16384) : EReal := V m c main_v0 (ix2 n d : S48x16384.Idx)

def W (c : Dev nD) (d : Fin 16384) (l : Fin 896) : BitVec 32 := V m c main_arg1 (ix2 d l : S16384x896.Idx)

def Z (c : Dev nD) (l : Fin 896) : BitVec 32 := V m c main_v1 (ix2 0 l : S1x896.Idx)

def S (c : Dev nD) (j : Fin 8) (l : Fin 896) : EReal := V m c main_v3 (ix2 j l : S8x896.Idx)

/-- The result array of the call. -/
def G (c : Dev nD) (j : Fin 8) (n : Fin 48) (l : Fin 896) : EReal :=
  ((∑ d : Fin 16384, X m c n d * nib (W m c d l) (shift j)) - nib (Z m c l) (shift j) * ∑ d, X m c n d) * S m c j l

/-- The columns `32 * shift j …` of the accumulator hold nibble `shift j`. -/
theorem shift_col (j : Fin 8) (l : ℕ) (hl : l < 128) : (32 * shift j + l) % 128 = l ∧ 4 * ((32 * shift j + l) / 128) = shift j := by
  have h : ∀ j : Fin 8, shift j = 4 * (shift j / 4) := by decide
  have := h j
  omega

theorem acc_last (c : Dev nD) (t : Fin cfg0.N) (h1 : t.val % 8 = 7) (j : Fin 8) (n : Fin 48) (l : Fin 128) :
    ((outsAt0 m c t.val t.isLt).2.1 (ix2 n ⟨32 * shift j + l.val, col_lt j l.val l.isLt⟩ : S48x1024.Idx) : EReal)
      = ∑ d : Fin 16384, X m c n d * nib (W m c d ⟨t.val / 8 * 128 + l.val, by have := div_lt t; omega⟩) (shift j) := by
  rw [acc_run m c t h1]
  refine Fin.sum_mul_add_congr (S := 8) (n := 2048) fun s k hl => ?_
  obtain ⟨e, e'⟩ := shift_col j l.val l.isLt
  have hs : (8 * (t.val / 8) + s.val) % 8 = s.val := by omega
  have hd : (8 * (t.val / 8) + s.val) / 8 = t.val / 8 := by omega
  show xBlk m c _ n k * nib (wBlk m c _ k ⟨(32 * shift j + l.val) % 128, _⟩) (4 * ((32 * shift j + l.val) / 128)) = _
  rw [x_block, w_block, e']
  unfold X W
  simp only [hs, hd, e]

theorem sum_last (c : Dev nD) (t : Fin cfg0.N) (h1 : t.val % 8 = 7) (n : Fin 48) :
    ((outsAt0 m c t.val t.isLt).2.2 (ix2 n 0 : S48x1.Idx) : EReal) = ∑ d : Fin 16384, X m c n d := by
  rw [sum_run m c t h1]
  refine Fin.sum_mul_add_congr (S := 8) (n := 2048) fun s k hl => ?_
  have hs : (8 * (t.val / 8) + s.val) % 8 = s.val := by omega
  show xBlk m c _ n k = _
  rw [x_block]
  unfold X
  simp only [hs]

theorem out_last (c : Dev nD) (t : Fin cfg0.N) (h1 : t.val % 8 = 7) (y : S8x48x128.Idx) :
    ((outsAt0 m c t.val t.isLt).1 y : EReal) = G m c (y 0) (y 1) ⟨t.val / 8 * 128 + (y 2).val, by
      have := div_lt t; have h : (y 2).val < 128 := (y 2).isLt; omega⟩ := by
  rw [out_C m c t (by omega) h1, outPieces_apply]
  unfold outBlock G
  rw [acc_last m c t h1 (y 0) (y 1) (y 2), sum_last m c t h1 (y 1)]
  unfold Z S
  rw [← z_block m c t (y 2), ← s_block m c t (y 0) (y 2)]

/-- The array after the run. -/
theorem final (c : Dev nD) : (dats m 0 c).arrAt 4 cfg0.N = (fun i : S8x48x896.Idx => G m c (i 0) (i 1) (i 2)) := by
  refine (dats m 0 c).arrAt_eq_of_covers 4 _ (by decide +kernel) fun t hf y => ?_
  have h1 : t.val % 8 = 7 := (flush0_4 t).mp hf
  blk_simp
  rw [after0_4]
  refine (out_last m c t h1 _).trans ?_
  have e0 : ((win0_4.blk t).view.emb y 0).val = (y 0).val := by blk_simp [(idx t).2.2.2.2]; try simp
  have e1 : ((win0_4.blk t).view.emb y 1).val = (y 1).val := by blk_simp [(idx t).2.2.2.2]; try simp
  have e2 : ((win0_4.blk t).view.emb y 2).val = t.val / 8 * 128 + (y 2).val := by blk_simp [(idx t).2.2.2.2]; try simp
  have h (j j' : Fin 8) (n n' : Fin 48) (l l' : Fin 896) (hj : j.val = j'.val) (hn : n.val = n'.val) (hl : l.val = l'.val) :
      G m c j n l = G m c j' n' l' := by rw [Fin.ext hj, Fin.ext hn, Fin.ext hl]
  exact h _ _ _ _ _ _ e0.symm e1.symm e2.symm

end Cert.KernelIdeal.Hand

end
-- ==== Proof.KernelRun.lean ====
/- The kernel's run: its result array, the host lines before and after the call included, is the formula at the launch
   memory's four arguments. -/
module

public import proofs.«01_k».proof.Proof.Array
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Cert.Words Cert.Formula

variable (m : (ℓ : Loc nD τ sig) → Buf (Elt Ideal) ℓ)

theorem V_v0 (c : Dev nD) : V m c main_v0 = shapeCast _ (m ((c : Thread nD τ).loc main_arg0)) shapeCasts_S48x1x16384_S48x16384 := by
  unfold_abbrev_sides
  simp only [hostOps0, List.flatten_cons, List.flatten_nil, List.append_nil]
  after_results
  rfl

theorem V_v1 (c : Dev nD) : V m c main_v1 = shapeCast _ (m ((c : Thread nD τ).loc main_arg2)) shapeCasts_S896_S1x896 := by
  unfold_abbrev_sides
  simp only [hostOps0, List.flatten_cons, List.flatten_nil, List.append_nil]
  after_results
  rfl

theorem V_v3 (c : Dev nD) : V m c main_v3 = transpose S8x896 [1, 0] (shapeCast _ (m ((c : Thread nD τ).loc main_arg3)) shapeCasts_S7168_S896x8) transposes_S896x8_S8x896_1_0 := by
  unfold_abbrev_sides
  simp only [hostOps0, List.flatten_cons, List.flatten_nil, List.append_nil]
  after_results
  rfl

theorem tail_v6 (c : Dev nD) : Pipeline.afterTail₀ cfgs (dats m) 0 (V0 m) [hostOps1] c main_v6
    = shapeCast _ (transpose S48x896x8 [1, 2, 0] ((dats m 0 c).arrAt 4 cfg0.N) transposes_S8x48x896_S48x896x8_1_2_0) shapeCasts_S48x896x8_S48x1x7168 := by
  unfold Pipeline.afterTail₀
  simp only [hostOps1, List.flatten_cons, List.flatten_nil, List.append_nil]
  after_results
  refine congrArg (fun A : Vec Ideal S8x48x896 .bf16 => shapeCast S48x1x7168 (transpose S48x896x8 [1, 2, 0] A transposes_S8x48x896_S48x896x8_1_2_0)
    shapeCasts_S48x896x8_S48x1x7168) ?_
  exact Pipeline.withArrays_arr spec0 (by decide) c (V0 m c) (fun w => (dats m 0 c).arrAt w cfg0.N) 4

theorem drop_unit (a : Vec Ideal S48x1x16384 .bf16) (n : Fin 48) (d : Fin 16384) :
    shapeCast S48x16384 a shapeCasts_S48x1x16384_S48x16384 (ix2 n d) = a (ix3 n 0 d) := by
  pointwise

theorem X_eq (c : Dev nD) (n : Fin 48) (d : Fin 16384) :
    X m c n d = m ((c : Thread nD τ).loc main_arg0) (ix3 n 0 d : S48x1x16384.Idx) := by
  unfold X
  rw [V_v0]
  exact drop_unit _ n d

theorem W_eq (c : Dev nD) (d : Fin 16384) (l : Fin 896) :
    W m c d l = m ((c : Thread nD τ).loc main_arg1) (ix2 d l : S16384x896.Idx) := by
  unfold W
  rw [V_main_arg1]

theorem Z_eq (c : Dev nD) (l : Fin 896) : Z m c l = m ((c : Thread nD τ).loc main_arg2) (ix1 l : S896.Idx) := by
  unfold Z
  rw [V_v1]
  pointwise

theorem S_eq (c : Dev nD) (j : Fin 8) (l : Fin 896) :
    S m c j l = m ((c : Thread nD τ).loc main_arg3) (ix1 ⟨8 * l.val + j.val, by omega⟩ : S7168.Idx) := by
  unfold S
  rw [V_v3]
  pointwise
  exact congrArg (fun i : Fin 7168 => m ((c : Thread nD τ).loc main_arg3) (ix1 i : S7168.Idx)) (Fin.ext (by show l.val * 8 + j.val = 8 * l.val + j.val; omega))

/-- The kernel's result. -/
def result (c : Dev nD) (i : S48x1x7168.Idx) : EReal :=
  G m c ⟨(i 2).val % 8, Nat.mod_lt _ (by decide)⟩ (i 0) ⟨(i 2).val / 8, by have h : (i 2).val < 7168 := (i 2).isLt; omega⟩

theorem run (ρ : Dev nD → PrngReg) : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (Gen.run_main m ρ) (Gen.unchanged m ρ))
  refine ((h.1 c).2 main_v6 (Pipeline.mem_restRefs_of main_v6 (by decide) (by decide))).trans ?_
  rw [tail_v6, final]
  funext i
  unfold result
  pointwise

end Cert.KernelIdeal.Hand

end
-- ==== Proof.Equation.lean ====
/- The equation: the kernel's result array is the reference's, at the same four arguments. -/
module

public import proofs.«01_k».proof.Proof.KernelRun
public import proofs.«01_k».proof.Proof.RefValue

@[expose] public section

set_option maxRecDepth 16384

noncomputable section

namespace Cert.KernelIdeal.Hand

open Cert.KernelIdeal Cert.KernelIdeal.Gen Idealize.ShloMosaic Idealize.ShloMosaic.TcCoe Idealize.SL.Sem
open Cert.Words Cert.Formula

/-- The call's array holds the formula's entries at the launch memory's arguments. -/
theorem G_eq (m : (ℓ : Loc nD τ sig) → Buf (Elt Ideal) ℓ) (c : Dev nD) (j : Fin 8) (n : Fin 48) (l : Fin 896) :
    G m c j n l = entry (fun n d => m ((c.tc : Thread nD τ).loc main_arg0) (ix3 n 0 d : S48x1x16384.Idx))
      (fun d l => m ((c.tc : Thread nD τ).loc main_arg1) (ix2 d l : S16384x896.Idx))
      (fun l => m ((c.tc : Thread nD τ).loc main_arg2) (ix1 l : S896.Idx))
      (fun k => m ((c.tc : Thread nD τ).loc main_arg3) (ix1 k : S7168.Idx)) n l j := by
  unfold G entry
  simp only [X_eq, W_eq, Z_eq, S_eq]

/-- Both sides are the formula's entry for row `i 0`, packed column `i 2 / 8` and place `i 2 % 8`. -/
theorem result_eq (m : (ℓ : Loc nD τ sig) → Buf (Elt Ideal) ℓ) (c : Dev nD) :
    Cert.ReferenceIdeal.Hand.result (m ((c.tc : Thread nD τ).loc main_arg0)) (m ((c.tc : Thread nD τ).loc main_arg1))
      (m ((c.tc : Thread nD τ).loc main_arg2)) (m ((c.tc : Thread nD τ).loc main_arg3)) = result m c := by
  funext i
  rw [Cert.ReferenceIdeal.Hand.result_apply]
  exact (G_eq m c _ _ _).symm

end Cert.KernelIdeal.Hand

end
-- ==== Proof.lean ====
/- The certificate: the two frames of the kernel come from the generated runs, the reference's from its run; the kernel
   and its reading over the extended reals are one program; and the two results are one formula
   (`Cert.KernelIdeal.Hand.result_eq`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Lib.StableHlo.RunHlo
import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and every counter at zero. -/
theorem frame_reference : Cert.quiescent_ReferenceIdeal := by
  intro m g _
  exact (θ_run _ _ _).mono (fun r h => ⟨fun c => (h c).2,
    Idealize.ShloMosaic.sem_eq_zero_of_no_sems (by decide) r.2⟩) (Cert.ReferenceIdeal.Value.run m g)

/-- Kernel and reference compute the same array. -/
theorem same_result : Cert.algebraic_KernelIdeal_ReferenceIdeal := by
  intro m g m' g' _ hagree
  refine ⟨fun c => Cert.KernelIdeal.Hand.result m c, Cert.KernelIdeal.Hand.run m g, ?_⟩
  refine (θ_run _ _ _).mono (fun r h c => ⟨(h c).1.trans ?_, (h c).2⟩) (Cert.ReferenceIdeal.Value.run m' g')
  obtain ⟨h0, h1, h2, h3⟩ := hagree c
  rw [h0, h1, h2, h3]
  exact Cert.KernelIdeal.Hand.result_eq m c

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, same_result⟩

end Cert.Proof

end
